-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_vocabulary : Cert.Pre_in_vocabulary.Facts] (m : (ℓ : Loc Cert.Reference.nD Cert.Reference.τ Cert.Reference.sig) → Buf (Elt Bits) ℓ) : Prop :=
  ∀ c : Dev Cert.Reference.nD,
    (Cert.Pre_in_vocabulary.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_vocabulary : Cert.Pre_in_vocabulary.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_vocabulary : Cert.Pre_in_vocabulary.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ quiescent_Reference (hReference := hReference) (hPre_in_vocabulary := hPre_in_vocabulary)
    ∧ preserves_Kernel_KernelIdeal
    ∧ algebraic_KernelIdeal_ReferenceIdeal (hKernelIdeal := hKernelIdeal) (hReferenceIdeal := hReferenceIdeal) (hPre_in_vocabulary := hPre_in_vocabulary)
    ∧ bitexact_Kernel_Reference (hKernel := hKernel) (hReference := hReference) (hPre_in_vocabulary := hPre_in_vocabulary)
-- ==== Pre_in_vocabulary.lean ====
abbrev S_ : Shape := ⟨0, ![]⟩
abbrev S1000000x128 : Shape := ⟨2, ![1000000, 128]⟩

class Facts : Prop where

variable [Facts]

def fn {F : FTy → Type} [FloatOps F] (main_arg0 : IVec S_ 32) (main_arg1 : FVec F S1000000x128 .f32) : IVec S_ 1 :=
  let main_c : IVec S_ 32 := constantI S_ 32 0#32
  let main_v0 : IVec S_ 1 := cmpi .sge main_arg0 main_c
  let main_c_0 : IVec S_ 32 := constantI S_ 32 1000000#32
  let main_v1 : IVec S_ 1 := cmpi .slt main_arg0 main_c_0
  let main_v2 : IVec S_ 1 := andi main_v0 main_v1
  main_v2
-- ==== Kernel.lean ====
abbrev S_ : Shape := ⟨0, ![]⟩
abbrev S1000000x128 : Shape := ⟨2, ![1000000, 128]⟩
abbrev S1 : Shape := ⟨1, ![1]⟩
abbrev S128 : Shape := ⟨1, ![128]⟩
abbrev S1x128 : Shape := ⟨2, ![1, 128]⟩

abbrev nBuf : Table → Nat
  | .hbm => 4
  | .local .scScalar .smem => 1
  | _ => 0

abbrev bufTy : (tb : Table) → Fin (nBuf tb) → BufTy
  | .hbm, ⟨0, _⟩ => ⟨S_, .i32⟩
  | .hbm, ⟨1, _⟩ => ⟨S1000000x128, .f32⟩
  | .hbm, ⟨2, _⟩ => ⟨S1, .i32⟩
  | .hbm, ⟨3, _⟩ => ⟨S128, .f32⟩
  | .local .scScalar .smem, ⟨0, _⟩ => ⟨S1, .i32⟩
  | _, _ => ⟨S_, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scs : Ref sig .scScalar := ⟨.hbm, 2, rfl⟩
abbrev main_arg1_scs : Ref sig .scScalar := ⟨.hbm, 1, rfl⟩
abbrev main_v1_scs : Ref sig .scScalar := ⟨.hbm, 3, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 2 → Nat :=
  let c0_i32_0_r1 : BitVec 32 := 0#32
  ![v1.toNat, 0]

def k0_chk1 (v1 : BitVec 32) : Prop :=
  (∀ a, (k0_off1 v1) a + S1x128.size a ≤ S1000000x128.size a)
theorem k0_off1_inb : ∀ (v1 : BitVec 32) (k0_hw1 : k0_chk1 v1), ∀ a, (k0_off1 v1) a + S1x128.size a ≤ S1000000x128.size a := fun v1 k0_hw1 => k0_hw1

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S_ : Shape := ⟨0, ![]⟩
abbrev S1000000x128 : Shape := ⟨2, ![1000000, 128]⟩
abbrev S1 : Shape := ⟨1, ![1]⟩
abbrev S1x1 : Shape := ⟨2, ![1, 1]⟩
abbrev S1x128 : Shape := ⟨2, ![1, 128]⟩
abbrev S128 : Shape := ⟨1, ![128]⟩

abbrev nBuf : Space → Nat
  | .hbm => 26
  | .vmem => 0
  | .smem => 0
  | _ => 0

abbrev bufTy : (tb : Table) → Fin (tcTables nBuf tb) → BufTy
  | .hbm, ⟨0, _⟩ => ⟨S_, .i32⟩
  | .hbm, ⟨1, _⟩ => ⟨S1000000x128, .f32⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S1, .i1⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S1, .i32⟩
  | .hbm, ⟨10, _⟩ => ⟨S1x1, .i32⟩
  | .hbm, ⟨11, _⟩ => ⟨S1, .i32⟩
  | .hbm, ⟨12, _⟩ => ⟨S_, .i32⟩
  | .hbm, ⟨13, _⟩ => ⟨S1x1, .i32⟩
  | .hbm, ⟨14, _⟩ => ⟨S1x1, .i1⟩
  | .hbm, ⟨15, _⟩ => ⟨S1x1, .i32⟩
  | .hbm, ⟨16, _⟩ => ⟨S1x1, .i1⟩
  | .hbm, ⟨17, _⟩ => ⟨S1x1, .i1⟩
  | .hbm, ⟨18, _⟩ => ⟨S_, .i1⟩
  | .hbm, ⟨19, _⟩ => ⟨S1, .i1⟩
  | .hbm, ⟨20, _⟩ => ⟨S1x128, .f32⟩
  | .hbm, ⟨21, _⟩ => ⟨S1x128, .i1⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S128, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩

abbrev nD : Nat := 1
abbrev τ : Topo := Topo.v7x

variable {F : FTy → Type} [FloatOps F]
-- ==== Proof.Setup.lean ====
/-
  The kernel's program as the SparseCore launch theorem sees it, its arrays, and what it computes. The program copies the
  token, as an array of one word, to SparseCore 0's scalar subcore, which fetches that word into its scalar memory and copies
  the table's row of that number into the result. `pick` is that row as plain mathematics; `P` says which arrays the call
  takes to the scalar subcore and what they hold when it brings them back. Everything here is over any float values `F`.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The facts about the launch semaphores and the SparseCores' buffers that the launch theorem takes. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The proof's ghost state: the handshakes' rounds beside the transfers' counters. -/
abbrev UH : Type := URounds (GSem nD τ sig) ℕ
abbrev UU : Type := UH × Counters

local notation "𝕄" => MT nD τ sig (HIx 1) (Elt F) ℕ UU ℕ

/-- The handshakes' rounds, as the left factor of the ghost state. -/
abbrev EH : Emb UH (MT nD τ sig (HIx 1) (Elt F) ℕ UU ℕ) := embL

/-! ## What the kernel computes -/

/-- Row `t` of a table of 1000000 rows of 128 numbers (a number past the end reads the last row). -/
def pick {α : Type} (t : Nat) (x : S1000000x128.Idx → α) : S128.Idx → α :=
  fun j => x fun | ⟨0, _⟩ => ⟨min t 999999, Nat.lt_succ_of_le (Nat.min_le_right ..)⟩ | ⟨1, _⟩ => ⟨(j 0).val, (j 0).isLt⟩

/-- Position `j` of a row is position `(0, j)` of the same row read as a table of one row. -/
theorem one_row_index (h : S128.numel = S1x128.numel) (j : S128.Idx) :
    Shape.reshapeEquiv h j = fun | ⟨0, _⟩ => ⟨0, Nat.one_pos⟩ | ⟨1, _⟩ => ⟨(j 0).val, (j 0).isLt⟩ :=
  Shape.reshapeEquiv_eq_of_rowMajor h (by
    rw [Shape.rowMajor_val_two, Shape.rowMajor_val_one]
    simp)

/-! ## The arrays -/

variable (m : (ℓ : Loc nD τ sig) → Buf (Elt F) ℓ)

/-- The token; the table; the token as an array of one word; the result. -/
abbrev kLoc (d : Dev nD) : Loc nD τ sig := (SparseCore.T d).loc main_arg0
abbrev xLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

/-- The token's one word, at launch. -/
abbrev tok (d : Dev nD) : BitVec 32 := m (kLoc d) fun a => a.elim0

/-- The precondition as the proof uses it: every device's token, read unsigned, is below 1000000. -/
def PreOK : Prop := ∀ d : Dev nD, (tok m d).toNat < 1000000

/-- The token as an array of one word. -/
abbrev Iv (d : Dev nD) : Buf (Elt F) (iLoc d) := fun _ => tok m d

/-- What the result ends at: the table's row of the token's number. -/
abbrev Rv (d : Dev nD) : Buf (Elt F) (oLoc d) := pick (tok m d).toNat (m (xLoc d))

/-! ## What the call carries -/

abbrev xPts (d : Dev nD) : sProp 𝕄 := xLoc d ↦{fullShare} m (xLoc d)
abbrev iPts (d : Dev nD) : sProp 𝕄 := iLoc d ↦{fullShare} Iv m d
abbrev oPts (d : Dev nD) (f : Buf (Elt F) (oLoc d)) : sProp 𝕄 := oLoc d ↦{fullShare} f

/-- The call takes the token's word, the table and the result's buffer, at anything, to SparseCore 0's scalar subcore, and
    brings them back with the result at the row of the table. -/
def P : (K (F := F)).Pay (nD := nD) (Val := Elt F) (Name := ℕ) (U := UU) where
  st := fun _ d _ => iprop(iPts m d ∗ xPts m d ∗ ∃ f, oPts d f)
  dn := fun _ d _ => iprop(iPts m d ∗ xPts m d ∗ oPts d (Rv m d))
  go := fun _ _ _ _ => iprop(emp)
  td := fun _ _ _ _ => iprop(emp)
  x := fun _ _ => iprop(emp)

instance P_storable : (P m).IsStorable where
  st _ d c := by unfold P; infer_instance
  dn _ d c := by unfold P; infer_instance
  go _ _ _ _ := by unfold P; infer_instance
  td _ _ _ _ := by unfold P; infer_instance

end Cert.Proof.Lookup

end
-- ==== Proof.Body.lean ====
/-
  The kernel's body on SparseCore 0's scalar subcore, run symbolically: the fetch of the token's word into scalar memory and
  its wait, the load of the word and the check that its row lies in the table, the copy of that row into the result and its
  wait. `body₀` states it in the shape that the launch asks for: from the three arrays and what the subcore owns to the same,
  the result at the row of the table that the token names.
-/
module

public import proofs.«01_k».proof.Proof.Setup

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! The kernel's arrays, as the program passes them: the token's word, the table, the result, the scalar-memory scratch. -/

abbrev iW : Memref sig .scScalar .hbm S1 .i32 := Memref.whole main_v0_scs
abbrev xW : Memref sig .scScalar .hbm S1000000x128 .f32 := Memref.whole main_arg1_scs
abbrev oW : Memref sig .scScalar .hbm S128 .f32 := Memref.whole main_v1_scs
abbrev sW : Memref sig .scScalar .smem S1 .i32 := Memref.whole cc0_scratch0

variable (m : (ℓ : Loc nD τ sig) → Buf (Elt F) ℓ) [FloatOps F] (d : Dev nD)

/-! ## What the scalar subcore owns -/

abbrev sLoc (c : Fin τ.nSC) : Loc nD τ sig := (S d c).loc cc0_scratch0
abbrev cell0 (c : Fin τ.nSC) : GSem nD τ sig := (S d c, .dma cc0_scoped0.sem)
abbrev cell1 (c : Fin τ.nSC) : GSem nD τ sig := (S d c, .dma cc0_scoped1.sem)

omit [FloatOps F] in
/-- The subcore's own semaphores at zero are the two that the copies use, and the rest. -/
theorem ownSems0_S (c : Fin τ.nSC) :
    (ownSems0 (S d c) : sProp 𝕄)
      = iprop(semVal (cell0 d c) 0 ∗ semVal (cell1 d c) 0 ∗ bigSep (((ownCells (S d c)).erase (cell0 d c)).erase (cell1 d c)) fun g => semVal g 0) := by
  unfold SparseCore.Cfg.ownSems0
  rw [SparseCore.bigSep_erase' ((mem_ownCells (g := cell0 d c)).mpr ⟨rfl, by
      show (SemLoc.dma cc0_scoped0.sem : SemLoc sig).isScoped .scScalar = true; decide⟩),
    SparseCore.bigSep_erase' (Finset.mem_erase.mpr ⟨by simp [cell0, cell1]; decide, (mem_ownCells (g := cell1 d c)).mpr ⟨rfl, by
      show (SemLoc.dma cc0_scoped1.sem : SemLoc sig).isScoped .scScalar = true; decide⟩⟩)]

omit [FloatOps F] in
/-- The subcore's own buffers are the scratch word, at something, and the rest. -/
theorem ownBufs_S (c : Fin τ.nSC) :
    (ownBufs (S d c) : sProp 𝕄)
      = iprop((∃ f, sLoc d c ↦{fullShare} f)
          ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

/-! ## The arrays, as the subcore's memrefs name them -/

omit [FloatOps F] in
theorem pts_i (c : Fin τ.nSC) (f : Buf (Elt F) (iLoc d)) : (iW.view.loc (S d c) ↦{fullShare} f : sProp 𝕄) = iLoc d ↦{fullShare} f := rfl
omit [FloatOps F] in
theorem pts_x (c : Fin τ.nSC) (f : Buf (Elt F) (xLoc d)) : (xW.view.loc (S d c) ↦{fullShare} f : sProp 𝕄) = xLoc d ↦{fullShare} f := rfl
omit [FloatOps F] in
theorem pts_o (c : Fin τ.nSC) (f : Buf (Elt F) (oLoc d)) : (oW.view.loc (S d c) ↦{fullShare} f : sProp 𝕄) = oLoc d ↦{fullShare} f := rfl
omit [FloatOps F] in
theorem pts_s (c : Fin τ.nSC) (f : Buf (Elt F) (sLoc d c)) : (sW.view.loc (S d c) ↦{fullShare} f : sProp 𝕄) = sLoc d c ↦{fullShare} f := rfl

/-- The grid's coordinates at SparseCore `c`. -/
def coordsS (c : Fin (grid0.bound 0)) : grid0.Coords := fun | 0 => c | ⟨_ + 1, h⟩ => absurd h (Nat.not_lt.2 (Nat.le_add_left _ _))

/-- SparseCore 0's scalar subcore. -/
abbrev S0 (h : 0 < grid0.bound 0) : Thread nD τ := S d ((⟨0, h⟩ : Fin (grid0.bound 0)).castLE hcore0)

/-- A row number below 1000000 passes the kernel's check: the row's 128 numbers lie in the table. -/
theorem chk_of_lt {v : BitVec 32} (hv : v.toNat < 1000000) : k0_chk1 v := by
  intro a
  match a with
  | 0 => show v.toNat + 1 ≤ 1000000; omega
  | 1 => show 0 + 128 ≤ 128; omega

omit [FloatOps F] in
/-- The table read through the slice that the kernel copies from, at a row number in the table, is that row. -/
theorem read_row {v : BitVec 32} (hv : v.toNat < 1000000) (hc : k0_chk1 v) (f : Buf (Elt F) (xLoc d)) :
    ((xW.slice (Rect.unit (s := S1000000x128) (k0_off1 v) S1x128.size (k0_off1_inb v hc)) (fun _ => rfl)).squeeze S128 squeezes_S1x128_S128).view.read (Elt F) f
      = pick v.toNat f := by
  funext j
  refine congrArg f (funext fun a => Fin.ext ?_)
  show ((Rect.unit (s := S1000000x128) (k0_off1 v) S1x128.size (k0_off1_inb v hc)).emb (Shape.reshapeEquiv squeezes_S1x128_S128.numel_eq j) a : Nat) = _
  rw [one_row_index]
  match a with
  | ⟨0, _⟩ => show v.toNat + 1 * 0 = min v.toNat 999999; omega
  | ⟨1, _⟩ => show 0 + 1 * (j 0).val = (j 0).val; omega

/-- The body on SparseCore 0's scalar subcore: from the token's word, the table, the result's buffer at anything and what
    the subcore owns, it ends, with the result at the table's row that the token names and all else as it was. -/
theorem body₀ (hpre : PreOK m) (h : 0 < grid0.bound 0) (O : CellTallies nD τ sig (HIx 1)) (W : Waits sig (HIx 1)) (hO : ∀ g, O g none = 0) :
    iprop(levAts (K (F := F)).L (K (F := F)).lev ∗ emp ∗ (iPts m d ∗ xPts m d ∗ ∃ f, oPts d f)
        ∗ scopedBufs (S0 d h) ∗ scopedSems0 (S0 d h) ∗ owes (S0 d h) O W)
      ⊢ wp frame (wpE (defs₀ (F := F)) 𝒱₀ (S0 d h) none) Set.univ
          (cc0__sc_lookup (coordsS ⟨0, h⟩) iW (Memref.isWhole_whole _) xW (Memref.isWhole_whole _) oW (Memref.isWhole_whole _)
            sW (Memref.isWhole_whole _) cc0_scoped0 cc0_scoped1)
          fun _ => iprop((iPts m d ∗ xPts m d ∗ oPts d (Rv m d)) ∗ scopedBufs (S0 d h) ∗ scopedSems0 (S0 d h)
            ∗ ∃ W', ⌜∀ p ∈ W', p ∈ W ∨ p.2 = none ∨ p.2 = some (0 : Fin 1)⌝ ∗ owes (S0 d h) O W') := by
  rw [(K (F := F)).scopedBufs_S facts d _, SparseCore.Cfg.scopedSems0_S (Val := Elt F) d _, ownSems0_S, ownBufs_S]
  simp only [cc0__sc_lookup_eq_skeleton]; unfold cc0__sc_lookup_skel
  iintro ⟨#Hlv, -, ⟨Hi, Hx, %fo, Ho⟩, ⟨⟨⟨%fs, Hs⟩, Hbufs⟩, Htiles⟩, ⟨⟨Hc0, Hc1, Hsems⟩, HtileSems⟩, HO⟩
  ihave Hmw := ((K (F := F)).mayWaits_none (thr := S0 d h) hO) $$ Hlv
  ihave Hi' := (Entails.of_eq (pts_i (F := F) d ((⟨0, h⟩ : Fin (grid0.bound 0)).castLE hcore0) _).symm) $$ Hi
  ihave Hx' := (Entails.of_eq (pts_x (F := F) d ((⟨0, h⟩ : Fin (grid0.bound 0)).castLE hcore0) _).symm) $$ Hx
  ihave Ho' := (Entails.of_eq (pts_o (F := F) d ((⟨0, h⟩ : Fin (grid0.bound 0)).castLE hcore0) _).symm) $$ Ho
  ihave Hs' := (Entails.of_eq (pts_s (F := F) d ((⟨0, h⟩ : Fin (grid0.bound 0)).castLE hcore0) _).symm) $$ Hs
  sl_exec
  have hr : body₀.sl.r m d h fs = tok m d := by
    unfold body₀.sl.r body₀.sl.dma0
    simp only [Memref.view_whole, View.write_whole_univ, View.read_whole]
    rfl
  have hchk : k0_chk1 (body₀.sl.r m d h fs) := hr ▸ chk_of_lt (hpre d)
  sl_exec
  sl_step
  have hrow : View.write (Elt F) oW.view fo (body₀.sl.dma0_1 m d h fs hchk) Finset.univ = Rv m d := by
    refine (View.write_whole_univ (Val := Elt F) main_v1_scs fo (body₀.sl.dma0_1 m d h fs hchk)).trans ?_
    refine (read_row d (v := body₀.sl.r m d h fs) (hr ▸ hpre d) hchk (m (xLoc d))).trans ?_
    rw [hr]
  ihave Ho := (Entails.of_eq ((pts_o (F := F) d _ _).trans (congrArg (oPts d) hrow))) $$ Ho'
  isplitl [Hi' Hx' Ho]
  · isplitl [Hi']; · iexact Hi'
    isplitl [Hx']; · iexact Hx'
    iexact Ho
  isplitl [Hs' Hbufs Htiles]
  · isplitl [Hs' Hbufs]
    · isplitl [Hs']; · iexists _; iexact Hs'
      iexact Hbufs
    iexact Htiles
  isplitl [Hc0 Hc1 Hsems HtileSems]
  · isplitl [Hc0 Hc1 Hsems]
    · isplitl [Hc0]; · iexact Hc0
      isplitl [Hc1]; · iexact Hc1
      iexact Hsems
    iexact HtileSems
  iexists _; isplitr
  swap; · iexact HO
  ipureintro; intro p _
  rcases p.2 with _ | q
  · exact .inr (.inl rfl)
  · exact .inr (.inr (congrArg some (Subsingleton.elim q 0)))

end Cert.Proof.Lookup

end
-- ==== Proof.Launch.lean ====
/-
  The run of the whole program, over any float values: the launch theorem for a program of one scalar-subcore call
  (`Cfg.θ_run_sc_quiescent`) at the body of Proof/Body.lean and at @main, which reshapes the token to an array of one word and
  makes the call. `run_main` states it: from a memory whose tokens are below 1000000, every fair execution ends, with the
  result at the table's row of the token's number, the token and the table unchanged and every semaphore counter at zero.
-/
module

public import proofs.«01_k».proof.Proof.Body

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

variable (m : (ℓ : Loc nD τ sig) → Buf (Elt F) ℓ) (ρ : Dev nD → PrngReg) [FloatOps F]

/-! ## What the launch theorem asks of the scalar subcore -/

/-- The kernel's entry in the program's table, as the launch finds it. -/
theorem defs₀_scalar (c : Fin τ.nSC) :
    defs₀ (F := F) (.scScalar c) 0 ()
      = SparseCore.onCore hcore0 (fun c => cc0__sc_lookup (coordsS c) (Memref.whole main_v0_scs) (Memref.isWhole_whole _)
          (Memref.whole main_arg1_scs) (Memref.isWhole_whole _) (Memref.whole main_v1_scs) (Memref.isWhole_whole _)
          (Memref.whole cc0_scratch0) (Memref.isWhole_whole _) cc0_scoped0 cc0_scoped1) ⟨⟩ c := rfl

/-- At the program's one call, SparseCore 0's scalar subcore does what `P` says of it. -/
theorem scalarObl (hpre : PreOK m) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body₀ m d hpre h O W hO

/-! ## The ghost state at launch: the handshakes', and nothing of the kernel's own -/

def u₀ : UU := (initOf (K (F := F)).hsCells (K (F := F)).hsToks, 1)

omit [FloatOps F] in
theorem bigSep_none {I : Type} (s : Finset I) : (bigSep s fun _ => iprop(emp)) = (iprop(emp) : sProp 𝕄) := bigSep_emp_const s

/-- That ghost state funds the handshakes; no thread is dealt anything else. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## @main on the TensorCore -/

abbrev k' : DevRef τ sig := Proc.devRef .tc (main_arg0 : Ref sig .tc)
abbrev x' : DevRef τ sig := Proc.devRef .tc (main_arg1 : Ref sig .tc)
abbrev i' : DevRef τ sig := Proc.devRef .tc (main_v0 : Ref sig .tc)
abbrev o' : DevRef τ sig := Proc.devRef .tc (main_v1 : Ref sig .tc)

/-- @main's one host operation, the token as an array of one word. -/
abbrev opI : HloOp τ sig (Elt F) := StableHlo.reshape main_arg0 main_v0 rfl shapeCasts_S_S1

/-- The TensorCore's arrays: the token, the table, the token's word, the result. -/
abbrev S4 : Finset (DevRef τ sig) := {k', x', i', o'}

omit [FloatOps F] in
theorem held_S4 (d : Dev nD) (W : Valuation τ sig (Elt F)) :
    (held (T d) S4 W : sProp 𝕄)
      = iprop((kLoc d ↦{fullShare} W k') ∗ (xLoc d ↦{fullShare} W x') ∗ (iLoc d ↦{fullShare} W i') ∗ oLoc d ↦{fullShare} W o') := by
  unfold held S4
  rw [SparseCore.bigSep_insert' (by decide), SparseCore.bigSep_insert' (by decide), SparseCore.bigSep_insert' (by decide), bigSep_singleton]

/-- The arrays' contents at launch. -/
def V0 (d : Dev nD) : Valuation τ sig (Elt F) := fun b => m (d, b)

omit [FloatOps F] in
/-- What the launch deals the TensorCore is its four arrays at their launch contents. -/
theorem unscoped_held (d : Dev nD) : (unscopedBufs d (fun b => m ((SparseCore.T d).loc b)) : sProp 𝕄) = held (T d) S4 (V0 m d) := by
  rw [held_S4]
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]
  rfl

/-- After the reshape: the token and the table unchanged, the word array at the token, the result's buffer as it was. -/
theorem held_V1 (d : Dev nD) :
    (held (T d) S4 ((opI (F := F)).result (V0 m d)) : sProp 𝕄)
      = iprop((kLoc d ↦{fullShare} m (kLoc d)) ∗ xPts m d ∗ iPts m d ∗ oPts d (m (oLoc d))) := by
  have hi : (opI (F := F)).result (V0 m d) i' = Iv m d := (StableHlo.reshape_result ..).trans
    (funext fun _ => congrArg (m (kLoc d)) (funext fun a => a.elim0))
  rw [held_S4, (opI (F := F)).result_of_not_mem (V0 m d) (b := k') (show k' ∉ ({i'} : Finset (DevRef τ sig)) by decide),
    (opI (F := F)).result_of_not_mem (V0 m d) (b := x') (show x' ∉ ({i'} : Finset (DevRef τ sig)) by decide),
    (opI (F := F)).result_of_not_mem (V0 m d) (b := o') (show o' ∉ ({i'} : Finset (DevRef τ sig)) by decide), hi]
  rfl

theorem st0_eq (d : Dev nD) : (bigSep Finset.univ fun c : Fin ((K (F := F)).nCore 0) => (P m).st 0 d c) = iprop(iPts m d ∗ xPts m d ∗ ∃ f, oPts d f) :=
  bigSep_univ_of_subsingleton (0 : Fin 1)
theorem dn0_eq (d : Dev nD) : (bigSep Finset.univ fun c : Fin ((K (F := F)).nCore 0) => (P m).dn 0 d c) = iprop(iPts m d ∗ xPts m d ∗ oPts d (Rv m d)) :=
  bigSep_univ_of_subsingleton (0 : Fin 1)

theorem hI : (opI (F := F)).bufs ⊆ S4 := show ({k', i'} : Finset (DevRef τ sig)) ⊆ S4 by decide

/-- What @main leaves the claims: the token and the table at their launch contents, the result at the table's row. -/
abbrev FIN (d : Dev nD) : sProp 𝕄 := iprop((kLoc d ↦{fullShare} m (kLoc d)) ∗ xPts m d ∗ oPts d (Rv m d))

/-- @main on device `d`'s TensorCore: the reshape, then the call, which takes the word, the table and the result's buffer and
    brings them back with the result written. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opI) (S := S4) hI (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hk, Hx, Hi, Ho⟩
  iapply ((K (F := F)).wp_run (D (F := F)) 𝒱 (EH := EH) (P := P m) κ d 0) $$ [Hst Hx Hi Ho Hb Hk Hts]
  isplitr; · iexact Hctx
  isplitl [Hst]; · iexact Hst
  isplitl [Hi Hx Ho]
  · rw [st0_eq]
    isplitl [Hi]; · iexact Hi
    isplitl [Hx]; · iexact Hx
    iexists _; iexact Ho
  iintro ⟨Hst, Hdn⟩
  ihave Hdn' := (Entails.of_eq (dn0_eq m d)) $$ Hdn
  icases Hdn' with ⟨-, Hx, Ho⟩
  imodintro
  isplitl [Hst]; · iexact Hst
  isplitr [Hb Hts]
  · isplitl [Hk]; · iexact Hk
    isplitl [Hx]; · iexact Hx
    iexact Ho
  isplitl [Hb] <;> iassumption

/-! ## The run -/

/-- What the claims read of device `d`'s final memory. -/
def fq (d : Dev nD) (s' : Phys nD τ sig (Elt F)) : Prop :=
  s'.mem.mem (oLoc d) = Rv m d ∧ s'.mem.mem (kLoc d) = m (kLoc d) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hk, Hx, Ho⟩, HSI⟩
  ihave H := (persistent_entails_right (SI_pointsTo_agree (st := s') (ℓ := kLoc d) (I := Finset.univ) (q := fullShare) (f := m (kLoc d)))) $$ [HSI Hk]
  · isplitl [HSI] <;> iassumption
  icases H with ⟨%hk, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := Rv m d)) $$ [HSI Ho]
  · isplitl [HSI] <;> iassumption
  icases H with %ho
  ipureintro
  exact ⟨funext fun i => ho i (Finset.mem_univ i), funext fun i => hk i (Finset.mem_univ i), funext fun i => hx i (Finset.mem_univ i)⟩

/-- Every device's result is the table's row of its token's number, its token and table are unchanged, and every semaphore
    counter is zero. -/
def QC : PUnit × MemSt nD τ sig (Elt F) → Prop := fun r =>
  (∀ c : Dev nD, r.2.mem (oLoc c) = Rv m c ∧ r.2.mem (kLoc c) = m (kLoc c) ∧ r.2.mem (xLoc c) = m (xLoc c)) ∧ r.2.sem = fun _ => 0

/-- The program's run, over any float values: from a memory whose tokens are below 1000000, every fair execution ends, without
    a fault, at `QC`. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hpre)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Lookup

end
-- ==== Proof.Value.lean ====
/-
  What the reference computes, and what the precondition says. The reference makes the token an array of one word, adds
  1000000 to it where it is negative, gathers the table's row of that number, and puts a NaN in place of the row where the
  number is out of range. At a token below 1000000 nothing is added and nothing replaced: `take_eq` says the result is `pick`,
  the table's row of the token's number. `tok_lt` reads the precondition as that bound. Both are over any float values `F`.
-/
module

public import proofs.«01_k».proof.Proof.Setup
public import proofs.«01_k».proof.Proof.Gen.ReferenceIdeal
public import proofs.«01_k».proof.Proof.Gen.Pre_in_vocabulary
public import Idealize.ShloMosaic.Lib.Routing.Ops
public import Idealize.ShloMosaic.Lib.ReduceAll

@[expose] public section

noncomputable section

namespace Cert.Proof.Lookup

open Cert.ReferenceIdeal Cert.ReferenceIdeal.Gen
open Idealize.ShloMosaic Idealize.ShloMosaic.ValueIdx

variable {F : FTy → Type} [FloatOps F]

/-! ## The precondition -/

/-- A token the precondition accepts is, read unsigned, below 1000000. -/
theorem tok_lt (t : IVec S_ 32) (x : FVec F Cert.Pre_in_vocabulary.S1000000x128 .f32)
    (h : Cert.Pre_in_vocabulary.fn t x = fun _ => 1#1) : (t fun a => a.elim0).toNat < 1000000 := by
  have e := IntOp.andi_eq_one.1 (congrFun h fun a => a.elim0)
  have h0 : (0#32 : BitVec 32).toInt ≤ (t fun a => a.elim0).toInt := IntOp.cmpi_sge.1 e.1
  have h1 : (t fun a => a.elim0).toInt < (1000000#32 : BitVec 32).toInt := IntOp.cmpi_slt.1 e.2
  rw [show (0#32 : BitVec 32).toInt = 0 by decide] at h0
  rw [show (1000000#32 : BitVec 32).toInt = 1000000 by decide] at h1
  have hw := (t fun a => a.elim0).isLt
  rw [BitVec.toInt_eq_toNat_cond] at h0 h1
  split at h0 <;> omega

/-! ## The reference's value -/

/-- The number of the row that the reference gathers: the token, with 1000000 added where it is negative. -/
abbrev rowNo (t : IVec S_ 32) : IVec S1x1 32 :=
  broadcastInDim S1x1 ![0] bcast_S1_S1x1_0
    (select (cmpi .slt (broadcastInDim S1 ![] bcast_S_S1 t) (broadcastInDim S1 ![] bcast_S_S1 (constantI S_ 32 0#32)))
      (addi (broadcastInDim S1 ![] bcast_S_S1 t) (broadcastInDim S1 ![] bcast_S_S1 (constantI S_ 32 1000000#32)))
      (broadcastInDim S1 ![] bcast_S_S1 t))

/-- A word below 1000000 has the same value signed. -/
theorem toInt_of_lt {w : BitVec 32} (h : w.toNat < 1000000) : w.toInt = w.toNat := by
  rw [BitVec.toInt_eq_toNat_cond, if_pos (by omega)]

/-- At a token below 1000000 the row's number is the token. -/
theorem rowNo_eq (t : IVec S_ 32) (h : (t fun a => a.elim0).toNat < 1000000) (i : S1x1.Idx) :
    rowNo t i = t fun a => a.elim0 := by
  have ht : ∀ j, broadcastInDim S1 ![] bcast_S_S1 t j = t fun a => a.elim0 :=
    fun j => congrArg t (funext fun a => a.elim0)
  have hneg : ¬ IntOp.cmpi .slt (t fun a => a.elim0) 0#32 = 1#1 := fun e => by
    have e := IntOp.cmpi_slt.1 e
    rw [toInt_of_lt h, show (0#32 : BitVec 32).toInt = 0 by decide] at e
    omega
  show (if IntOp.cmpi .slt (broadcastInDim S1 ![] bcast_S_S1 t _) 0#32 = 1#1 then _ else broadcastInDim S1 ![] bcast_S_S1 t _) = _
  rw [ht, if_neg hneg]

/-- At a token below 1000000 the reference's result is the table's row of the token's number. -/
theorem take_eq (t : IVec S_ 32) (x : FVec F S1000000x128 .f32) (h : (t fun a => a.elim0).toNat < 1000000) :
    shapeCast S128 (select (broadcastInDim S1x128 ![0] bcast_S1_S1x128_0 (Host.reduce IntOp.andi
        (andi (cmpi .sge (rowNo t) (broadcastInDim S1x1 ![] bcast_S_S1x1 (constantI S_ 32 0#32)))
          (cmpi .sle (rowNo t) (broadcastInDim S1x1 ![1] bcast_S1_S1x1_1 (constantI S1 32 999999#32))))
        (constantI S_ 1 1#1) reducesTo_S1x1_S1_d1 h_S_))
      (Host.gather gather_S1000000x128_S1x1_S1x128_1_0_n_n_0_1_1128 x (rowNo t))
      (broadcastInDim S1x128 ![] bcast_S_S1x128 (constant S_ .f32 0x7FC00000#32))) shapeCasts_S1x128_S128
      = pick (t fun a => a.elim0).toNat x := by
  funext j
  -- the row is in range, so the mask keeps it
  have hmask : ∀ k, Host.reduce IntOp.andi
      (andi (cmpi .sge (rowNo t) (broadcastInDim S1x1 ![] bcast_S_S1x1 (constantI S_ 32 0#32)))
        (cmpi .sle (rowNo t) (broadcastInDim S1x1 ![1] bcast_S1_S1x1_1 (constantI S1 32 999999#32))))
      (constantI S_ 1 1#1) reducesTo_S1x1_S1_d1 h_S_ k = 1#1 := fun k =>
    Host.reduce_andi_one _ _ _ _ _ rfl fun i => by
      show IntOp.andi (IntOp.cmpi .sge (rowNo t i) 0#32) (IntOp.cmpi .sle (rowNo t i) 999999#32) = 1#1
      rw [rowNo_eq t h, IntOp.andi_eq_one, IntOp.cmpi_sge, IntOp.cmpi_sle, toInt_of_lt h,
        show (0#32 : BitVec 32).toInt = 0 by decide, show (999999#32 : BitVec 32).toInt = 999999 by decide]
      omega
  -- position `j` of the result is position `(0, j)` of the gathered row
  show (if Host.reduce IntOp.andi _ _ _ _ _ = 1#1 then Host.gather _ x (rowNo t) (Shape.reshapeEquiv _ j) else _) = _
  rw [if_pos (hmask _), one_row_index]
  -- and the gathered row is the table's row of the token's number
  have hj : (fun | ⟨0, _⟩ => ⟨0, Nat.one_pos⟩ | ⟨1, _⟩ => ⟨(j 0).val, (j 0).isLt⟩ : S1x128.Idx)
      = ix2 (0 : Fin 1) (⟨(j 0).val, (j 0).isLt⟩ : Fin 128) := by
    funext a
    match a with
    | ⟨0, _⟩ => rfl
    | ⟨1, _⟩ => rfl
  refine (congrArg _ hj).trans ((Routing.gather_row gather_S1000000x128_S1x1_S1x128_1_0_n_n_0_1_1128 rfl rfl rfl rfl rfl x
    (rowNo t) 0 _ ⟨(t fun a => a.elim0).toNat, h⟩ ?_ (by omega)).trans (congrArg x ?_))
  · rw [rowNo_eq t h, BitVec.ofNat_toNat, BitVec.setWidth_eq]
  · funext a
    match a with
    | ⟨0, _⟩ => exact Fin.ext (Nat.min_eq_left (Nat.le_of_lt_succ h)).symm
    | ⟨1, _⟩ => rfl

end Cert.Proof.Lookup

end
-- ==== Proof.lean ====
/-
  The proof of `Cert.Claim` (proofs.«01_k».proof.Defs): from any memory whose tokens are in the table's range, the embedding
  lookup on the SparseCore's scalar subcore and the reference both end, leave the token and the table unchanged and every
  semaphore counter at zero, and return the same row, as extended reals and bit for bit. The kernel's run is
  `Lookup.run_main` (Proof/Launch.lean), over any float values; the reference's value is `Lookup.take_eq` (Proof/Value.lean).
  `Kernel` and `KernelIdeal` are one text, the first read at floats' bits and the second at extended reals, so the one run
  serves both; so are `Reference` and `ReferenceIdeal`.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_in_vocabulary
public import proofs.«01_k».proof.Proof.Gen.ReferenceIdeal.Run
public import proofs.«01_k».proof.Proof.Gen.Reference.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The printed kernel runs from any memory whose tokens are in range, its arguments unchanged and its counters at zero. -/
theorem frame_kernel : Cert.quiescent_Kernel := fun m ρ hpre =>
  (θ_run Cert.KernelIdeal.defs _ _).mono (fun _ h => ⟨fun c => (h.1 c).2, h.2⟩)
    (Lookup.run_main (F := Bits) m ρ fun c => Lookup.tok_lt _ _ (hpre c))

/-- The same of the kernel read at extended reals. -/
theorem frame_kernelIdeal : Cert.quiescent_KernelIdeal := fun m ρ hpre =>
  (θ_run Cert.KernelIdeal.defs _ _).mono (fun _ h => ⟨fun c => (h.1 c).2, h.2⟩)
    (Lookup.run_main (F := Ideal) m ρ fun c => Lookup.tok_lt _ _ (hpre c))

/-- The reference read at extended reals runs from any memory, its arguments unchanged and its counters, of which it has
    none, at zero. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the printed reference. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- Kernel and reference, read at extended reals, return the same row of the table. -/
theorem algebraic : Cert.algebraic_KernelIdeal_ReferenceIdeal := fun m ρ m' ρ' hpre hargs => by
  have hlt : Lookup.PreOK (F := Ideal) m := fun c => Lookup.tok_lt _ _ (hpre c)
  refine ⟨fun c => Lookup.Rv m c, (θ_run Cert.KernelIdeal.defs _ _).mono (fun _ h => h.1) (Lookup.run_main (F := Ideal) m ρ hlt),
    (θ_run Cert.ReferenceIdeal.defs _ _).mono (fun _ h c => ⟨(h c).1.trans ?_, (h c).2⟩)
      (Cert.ReferenceIdeal.Value.run (F := Ideal) m' ρ')⟩
  rw [(hargs c).1, (hargs c).2]
  exact Lookup.take_eq (F := Ideal) _ _ (hlt c)

/-- The printed kernel and the printed reference return the same row of the table, bit for bit. -/
theorem bitexact : Cert.bitexact_Kernel_Reference := fun m ρ m' ρ' hpre hargs => by
  have hlt : Lookup.PreOK (F := Bits) m := fun c => Lookup.tok_lt _ _ (hpre c)
  refine ⟨fun c => Lookup.Rv (F := Bits) m c, (θ_run Cert.KernelIdeal.defs _ _).mono (fun _ h => h.1) (Lookup.run_main (F := Bits) m ρ hlt),
    (θ_run Cert.Reference.defs _ _).mono (fun _ h c => ⟨(h c).1.trans ?_, (h c).2⟩)
      (Cert.Reference.Value.run (F := Bits) m' ρ')⟩
  rw [(hargs c).1, (hargs c).2]
  exact Lookup.take_eq (F := Bits) _ _ (hlt c)

theorem claim : Cert.Claim :=
  ⟨Cert.Kernel.Gen.facts, Cert.KernelIdeal.Gen.facts, Cert.ReferenceIdeal.Gen.facts, Cert.Reference.Gen.facts, Cert.Pre_in_vocabulary.Gen.facts,
    frame_kernel, frame_kernelIdeal, frame_referenceIdeal, fun m ρ _ => frame_referenceIdeal m ρ trivial, frame_reference, trivial, algebraic, bitexact⟩

end Cert.Proof

end
